-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x4096 : Shape := ⟨2, ![64, 4096]⟩
abbrev S1 : Shape := ⟨1, ![1]⟩
abbrev S64x4096x128 : Shape := ⟨3, ![64, 4096, 128]⟩
abbrev S1x512x128 : Shape := ⟨3, ![1, 512, 128]⟩
abbrev S512x128 : Shape := ⟨2, ![512, 128]⟩

abbrev nBuf : Space → Nat
  | .hbm => 3
  | .vmem => 2
  | .smem => 1
  | _ => 0

abbrev bufTy : (tb : Table) → Fin (tcTables nBuf tb) → BufTy
  | .hbm, ⟨0, _⟩ => ⟨S64x4096, .i32⟩
  | .hbm, ⟨1, _⟩ => ⟨S1, .f32⟩
  | .hbm, ⟨2, _⟩ => ⟨S64x4096x128, .f32⟩
  | .local _ .vmem, ⟨0, _⟩ => ⟨S1x512x128, .f32⟩
  | .local _ .vmem, ⟨1, _⟩ => ⟨S1x512x128, .f32⟩
  | .local _ .smem, ⟨0, _⟩ => ⟨S1, .f32⟩
  | _, _ => ⟨S64x4096, .i32⟩

abbrev bufScoped : (cs : CoreSpace) → Fin (nBuf (.core cs)) → Bool
  | .vmem, ⟨0, _⟩ => true
  | .vmem, ⟨1, _⟩ => true
  | .smem, ⟨0, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg1_0 : Ref sig .tc := ⟨.vmem, 0, rfl⟩
abbrev cc0_stg1_1 : Ref sig .tc := ⟨.vmem, 1, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2

abbrev nD : Nat := 1
abbrev τ : Topo := Topo.v7x

variable {F : FTy → Type} [FloatOps F]

abbrev grid0 : Pipeline.Grid := ⟨2, ![64, 8], ![false, false]⟩

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== ReferenceIdeal.lean ====
abbrev S64x4096 : Shape := ⟨2, ![64, 4096]⟩
abbrev S1 : Shape := ⟨1, ![1]⟩
abbrev S_ : Shape := ⟨0, ![]⟩
abbrev S64x4096x128 : Shape := ⟨3, ![64, 4096, 128]⟩
abbrev S4096 : Shape := ⟨1, ![4096]⟩
abbrev S4096x1 : Shape := ⟨2, ![4096, 1]⟩
abbrev S4096x2 : Shape := ⟨2, ![4096, 2]⟩

abbrev nBuf : Space → Nat
  | .hbm => 33
  | .vmem => 0
  | .smem => 0
  | _ => 0

abbrev bufTy : (tb : Table) → Fin (tcTables nBuf tb) → BufTy
  | .hbm, ⟨0, _⟩ => ⟨S64x4096, .i32⟩
  | .hbm, ⟨1, _⟩ => ⟨S1, .f32⟩
  | .hbm, ⟨2, _⟩ => ⟨S_, .f32⟩
  | .hbm, ⟨3, _⟩ => ⟨S64x4096x128, .f32⟩
  | .hbm, ⟨4, _⟩ => ⟨S4096, .i32⟩
  | .hbm, ⟨5, _⟩ => ⟨S_, .i32⟩
  | .hbm, ⟨6, _⟩ => ⟨S4096, .i32⟩
  | .hbm, ⟨7, _⟩ => ⟨S4096, .i32⟩
  | .hbm, ⟨8, _⟩ => ⟨S_, .i32⟩
  | .hbm, ⟨9, _⟩ => ⟨S4096, .i32⟩
  | .hbm, ⟨10, _⟩ => ⟨S4096, .i32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S_, .i32⟩
  | .hbm, ⟨18, _⟩ => ⟨S4096, .i32⟩
  | .hbm, ⟨19, _⟩ => ⟨S4096, .i32⟩
  | .hbm, ⟨20, _⟩ => ⟨S4096, .i32⟩
  | .hbm, ⟨21, _⟩ => ⟨S_, .i32⟩
  | .hbm, ⟨22, _⟩ => ⟨S4096, .i32⟩
  | .hbm, ⟨23, _⟩ => ⟨S4096, .i1⟩
  | .hbm, ⟨24, _⟩ => ⟨S_, .i32⟩
  | .hbm, ⟨25, _⟩ => ⟨S4096, .i32⟩
  | .hbm, ⟨26, _⟩ => ⟨S4096, .i32⟩
  | .hbm, ⟨27, _⟩ => ⟨S4096, .i32⟩
  | .hbm, ⟨28, _⟩ => ⟨S4096x1, .i32⟩
  | .hbm, ⟨29, _⟩ => ⟨S4096x1, .i32⟩
  | .hbm, ⟨30, _⟩ => ⟨S4096x2, .i32⟩
  | .hbm, ⟨31, _⟩ => ⟨S64x4096, .f32⟩
  | .hbm, ⟨32, _⟩ => ⟨S64x4096x128, .f32⟩
  | _, _ => ⟨S64x4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_c_2 : Ref sig .tc := ⟨.hbm, 14, rfl⟩
abbrev main_v8 : Ref sig .tc := ⟨.hbm, 15, rfl⟩
abbrev main_v9 : Ref sig .tc := ⟨.hbm, 16, rfl⟩
abbrev main_c_3 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_c_4 : Ref sig .tc := ⟨.hbm, 21, rfl⟩
abbrev main_v13 : Ref sig .tc := ⟨.hbm, 22, rfl⟩
abbrev main_v14 : Ref sig .tc := ⟨.hbm, 23, rfl⟩
abbrev main_c_5 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩

abbrev nD : Nat := 1
abbrev τ : Topo := Topo.v7x

variable {F : FTy → Type} [FloatOps F]
-- ==== Proof.Target.lean ====
/- The target token of a position, as a number and as a 32-bit word.

   At position `p` the target is `min (p + 1) 127`. Both programs compute it on 32-bit words, as the signed minimum of the
   word of `p` plus one and the word 127; the positions are below 4096, so no word wraps and no word is negative. -/
module

public import Idealize.ShloMosaic.Lib.Routing.OpsSet
public import Idealize.ShloMosaic.Lib.Routing.OpsSearch

@[expose] public section

namespace Cert.Target

open Idealize.ShloMosaic Idealize.ShloMosaic.ValueIdx

/-- The target token of position `p`. -/
def target (p : Nat) : Nat := min (p + 1) 127

/-- A target token is below the vocabulary size. -/
theorem target_lt (p : Nat) : target p < 128 := by unfold target; omega

/-- The signed minimum of the word of `p` plus one and the word 127 is the word of the target token of `p`. -/
theorem target_word {p : Nat} (hp : p < 4096) :
    IntOp.minsi (IntOp.addi (BitVec.ofNat 32 p) 1#32) 127#32 = BitVec.ofNat 32 (target p) := by
  have e : IntOp.addi (BitVec.ofNat 32 p) 1#32 = BitVec.ofNat 32 (p + 1) := (BitVec.ofNat_add p 1).symm
  rw [e]
  unfold IntOp.minsi target
  rw [show (127#32 : BitVec 32) = BitVec.ofNat 32 127 from rfl, Routing.slt_ofNat32 (by omega) (by omega)]
  by_cases h : p + 1 < 127
  · rw [decide_eq_true h, if_pos rfl, Nat.min_eq_left (by omega)]
  · rw [decide_eq_false h, if_neg (by decide), Nat.min_eq_right (by omega)]

/-- Row `r` of the block of 512 rows number `s` is position `512 * s + r`, on words too. -/
theorem position_word (r s : Nat) :
    IntOp.addi (BitVec.ofNat 32 r) (IntOp.muli (BitVec.ofNat 32 s) 512#32) = BitVec.ofNat 32 (s * 512 + r) := by
  show BitVec.ofNat 32 r + BitVec.ofNat 32 s * BitVec.ofNat 32 512 = _
  rw [← BitVec.ofNat_mul, ← BitVec.ofNat_add, Nat.add_comm]

/-- A choice by whether two words below 2^32 are equal is the choice by whether the two numbers are. -/
theorem select_eq_word {α : Type} {a b : Nat} (ha : a < 2 ^ 32) (hb : b < 2 ^ 32) (x y : α) :
    Scalar.select (IntOp.cmpi .eq (BitVec.ofNat 32 a) (BitVec.ofNat 32 b)) x y = if a = b then x else y := by
  by_cases h : a = b
  · subst h
    rw [if_pos rfl]
    show Scalar.select (BitVec.ofBool (BitVec.ofNat 32 a == BitVec.ofNat 32 a)) x y = x
    rw [beq_self_eq_true]
    rfl
  · rw [if_neg h]
    have hne : (BitVec.ofNat 32 a == BitVec.ofNat 32 b) = false :=
      beq_eq_false_iff_ne.2 fun e => h ((WordCmp.ofNat_eq_ofNat_iff ha hb).1 e)
    show Scalar.select (BitVec.ofBool (BitVec.ofNat 32 a == BitVec.ofNat 32 b)) x y = y
    rw [hne]
    rfl

end Cert.Target
-- ==== Proof.Logits.lean ====
/- The array that both programs compute, as one function of the anchor.

   For each of 64 sequences and 4096 positions there are 128 logits: the logit of the position's target token is 1000 plus
   the anchor, every other logit is -1000. -/
module

public import proofs.«01_k».proof.Proof.Target
public import Idealize.ShloMosaic.Lib.ValueIdxCore

@[expose] public section

noncomputable section

namespace Cert.Logits

open Idealize.ShloMosaic Idealize.ShloMosaic.ValueIdx Cert.Target

variable {F : FTy → Type} [FloatOps F]

/-- The logit of token `v` at position `p`, for an anchor `a`. -/
def logit (a : F .f32) (p v : Nat) : F .f32 :=
  if v = target p then Scalar.addf (Scalar.ofBits .f32 0x447A0000#32) a else Scalar.ofBits .f32 0xC47A0000#32

/-- All the logits, from the array that holds the anchor. -/
def logits (anchor : FVec F ⟨1, ![1]⟩ .f32) : FVec F ⟨3, ![64, 4096, 128]⟩ .f32 :=
  fun j => logit (anchor (ix1 (0 : Fin 1))) (j 1).val (j 2).val

end Cert.Logits

end
-- ==== Proof.KernelValue.lean ====
/- What the kernel computes: after its run the result array is `Logits.logits` of the anchor argument.

   The block of 512 positions that a grid point stores is the payload `k0_pay1`, read here at one element (`pay_apply`);
   the blocks of the 64 by 8 grid points tile the result (`covers`), so the array is determined block by block (`final`). -/
module

public import proofs.«01_k».proof.Proof.Gen.KernelIdeal.Value
public import proofs.«01_k».proof.Proof.Logits
public import Idealize.ShloMosaic.Lib.Pipeline.ValueKit

@[expose] public section

noncomputable section

namespace Cert.KernelIdeal.Filled

open Cert.KernelIdeal Cert.KernelIdeal.Gen Cert.KernelIdeal.Value Idealize.ShloMosaic Idealize.ShloMosaic.TcCoe
open Idealize.SL.Sem Cert.Target Cert.Logits

variable {F : FTy → Type} [FloatOps F]

/-- The stored block at row `r`, token `v` is the logit of token `v` at position `512 * s + r`, `s` the second grid
    coordinate. -/
theorem pay_apply (i : grid0.Coords) (a : F .f32) (y : S1x512x128.Idx) :
    k0_pay1 i a y = logit a ((i 1).val * 512 + (y 1).val) (y 2).val := by
  have hs : (i 1).val < 8 := (i 1).isLt
  have hr : (y 1).val < 512 := (y 1).isLt
  have hv : (y 2).val < 128 := (y 2).isLt
  unfold k0_pay1
  refine (shapeCast_addUnit_apply ![512, 128] _ shapeCasts_S512x128_S1x512x128 y).trans ?_
  have e0 : iota .tc S512x128 32 [0] iota_S512x128_d0_w32 (ValueIdx.ix2 (y 1) (y 2)) = BitVec.ofNat 32 (y 1).val :=
    iota_single_apply .tc S512x128 32 0 _ _
  have e1 : iota .tc S512x128 32 [1] iota_S512x128_d1_w32 (ValueIdx.ix2 (y 1) (y 2)) = BitVec.ofNat 32 (y 2).val :=
    iota_single_apply .tc S512x128 32 1 _ _
  rw [show (fun a => y a.succ : S512x128.Idx) = ValueIdx.ix2 (y 1) (y 2) from ValueIdx.eq_ix2 (n0 := 512) (n1 := 128) _]
  show Scalar.select (IntOp.cmpi .eq (iota .tc S512x128 32 [1] iota_S512x128_d1_w32 (ValueIdx.ix2 (y 1) (y 2)))
    (IntOp.minsi (IntOp.addi (IntOp.addi (iota .tc S512x128 32 [0] iota_S512x128_d0_w32 (ValueIdx.ix2 (y 1) (y 2)))
      (IntOp.muli (BitVec.ofNat 32 (i 1).val) 512#32)) 1#32) 127#32)) _ _ = _
  rw [e0, e1]
  have ht := target_lt ((i 1).val * 512 + (y 1).val)
  rw [position_word, target_word (by omega), select_eq_word (by omega) (by omega)]
  rfl

/-- The offset of the whole block is zero on every axis. -/
theorem offset_zero : (![0, 0, 0] : Fin 3 → Nat) = fun _ => 0 := funext fun a => by fin_cases a <;> rfl

/-- The anchor's array has one index. -/
theorem anchor_idx (j k : S1.Idx) : j = k := funext fun a => by
  match a with
  | ⟨0, _⟩ => exact Subsingleton.elim (α := Fin 1) _ _

/-- What a grid point leaves in the output's buffer is the payload at the one word of the anchor's buffer. -/
theorem out_eq (c : Dev nD) (i : grid0.Coords) (arg2 : Memref sig .tc .smem S1 .f32) (h2 : arg2.IsWhole)
    (arg3 : Memref sig .tc .vmem S1x512x128 .f32) (h3 : arg3.IsWhole) (x0 : Vec F S1 .f32) :
    out0_A_1 c i arg2 h2 arg3 h3 x0 = k0_pay1 i (x0 (ValueIdx.ix1 (0 : Fin 1))) := by
  unfold out0_A_1
  rw [View.read_writes_junk_eq_canon]
  show View.canon ([⟨Rect.unit ![0, 0, 0] S1x512x128.size inb_S1x512x128_S1x512x128_0_0_0,
      k0_pay1 i
        (View.readAt (Elt F) arg2.view (Rect.unit (s := S1) ![0] S1.size inb_S1_S1_0).toLoadRect (h2.unread x0) _)⟩] :
      List (View.Piece (Elt F) S1x512x128 .f32)) = _
  rw [View.canon_unit_zero offset_zero, View.readAt_eq_ld, h2.read_unread]
  exact congrArg (k0_pay1 i) (congrArg x0 (anchor_idx _ _))

variable (m : (ℓ : Loc nD τ sig) → Buf (Elt F) ℓ) (ρ : Dev nD → PrngReg)

/-- The block index that a grid point writes: its two coordinates, and zero on the token axis. -/
theorem idx_out : ∀ t : Fin cfg0.N, win0_1.index t = ![(grid0.coords t 0).val, (grid0.coords t 1).val, 0] :=
  (by decide +kernel : ∀ t : Fin grid0.N, _)

/-- The blocks that the grid points write cover the result array. -/
theorem covers : (cfg0.win 1).Covers := by decide +kernel

/-- The anchor's block is the anchor's array. -/
theorem anchor_block (c : Dev nD) (t : Fin cfg0.N) : iblk m c 0 t = m ((c : Thread nD τ).loc main_arg1) := by
  rw [← V_main_arg1 m c]
  funext j
  show V m c main_arg1 (((cfg0.win 0).blk t).view.emb j) = V m c main_arg1 j
  exact congrArg (V m c main_arg1) (anchor_idx _ j)

/-- The result array after the run is the logits of the anchor. -/
theorem final (c : Dev nD) : (dats m 0 c).arrAt 1 cfg0.N = logits (m ((c : Thread nD τ).loc main_arg1)) := by
  refine (dats m 0 c).arrAt_eq_of_covers 1 _ covers fun t _ y => ?_
  blk_simp
  rw [after0_1]
  unfold outsAt0
  rw [out_eq, anchor_block, pay_apply]
  unfold logits
  blk_simp [idx_out t]

/-- The kernel's run: the result array is the logits of the anchor, the arguments are as launched. -/
theorem run : θ_run defs (onTc (τ := τ) (main (F := F))) ⟨m, fun _ => 0, ρ⟩ fun r => ∀ c : Dev nD,
      r.2.mem ((c : Thread nD τ).loc main_v0) = logits (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun _ h c => ⟨(h c).1.trans (final m c), (h c).2⟩) (run_blocks m ρ)

end Cert.KernelIdeal.Filled

end
-- ==== Proof.RefValue.lean ====
/- What the reference computes over the extended reals: after its run the result array is `Logits.logits` of the anchor argument.

   The reference scatters one word, 1000 plus the anchor, into an array of -1000. Update `(b, p)` of the scatter lands at
   `(b, p, target p)` (`lands_iff`), its two index words being the words of `p` and of `target p` (`pairs_position`,
   `pairs_target`). So an element `(b, p, v)` is hit exactly when `v = target p`. -/
module

public import proofs.«01_k».proof.Proof.Gen.ReferenceIdeal.Run
public import proofs.«01_k».proof.Proof.Logits
public import Idealize.ShloMosaic.Lib.Pipeline.Value

@[expose] public section

noncomputable section

namespace Cert.ReferenceIdeal.Scattered

open Cert.ReferenceIdeal Cert.ReferenceIdeal.Gen Cert.ReferenceIdeal.Value Idealize.ShloMosaic Idealize.ShloMosaic.TcCoe
open Idealize.SL.Sem Cert.Target Cert.Logits
open Idealize.ShloMosaic.Routing (wrap_of_lt scatter_set_hit scatter_set_miss resultIdx?_eq_some)

/-! ## The index words -/

/-- One word at every position. -/
abbrev all (b : BitVec 32) : IVec S4096 32 := broadcastInDim S4096 ![] bcast_S_S4096 (constantI S_ 32 b)

/-- The words of the positions. -/
abbrev positions : IVec S4096 32 := iotaInDim S4096 32 0

/-- The words of the positions' target tokens. -/
abbrev targets : IVec S4096 32 := minsi (addi positions (all 1#32)) (all 127#32)

/-- An index vector with `n` added to its negative words, as an array of one column. -/
abbrev column (x : IVec S4096 32) (n : BitVec 32) : IVec S4096x1 32 :=
  broadcastInDim S4096x1 ![0] bcast_S4096_S4096x1_0 (select (cmpi .slt x (all 0#32)) (addi x (all n)) x)

/-- The scatter's index words: a row per position, which holds the position and its target token. -/
abbrev pairs : IVec S4096x2 32 :=
  concatenate S4096x2 1 [⟨S4096x1, column positions 4096#32⟩, ⟨S4096x1, column targets 128#32⟩]
    concatenates_S4096x1_S4096x1_S4096x2_d1

/-- The word of a position. -/
theorem positions_apply (q : S4096.Idx) : positions q = BitVec.ofNat 32 (q 0).val := rfl

/-- The word of a position's target token. -/
theorem targets_apply (q : S4096.Idx) : targets q = BitVec.ofNat 32 (target (q 0).val) := by
  show IntOp.minsi (IntOp.addi (BitVec.ofNat 32 (q 0).val) 1#32) 127#32 = _
  exact target_word (q 0).isLt

/-- Row `p` of the column of an index vector whose word at `p` is not negative: that word. -/
theorem column_apply (x : IVec S4096 32) (n : BitVec 32) (p : Fin 4096) {k : Nat} (hk : k < 4096)
    (hx : x (ValueIdx.ix1 p) = BitVec.ofNat 32 k) :
    column x n (ValueIdx.ix2 p (0 : Fin 1)) = BitVec.ofNat 32 k := by
  refine (broadcastInDim_apply ![0] bcast_S4096_S4096x1_0 _ _ (ValueIdx.ix1 p) fun a => ?_).trans ?_
  · match a with
    | ⟨0, _⟩ => rfl
  · show Scalar.select (IntOp.cmpi .slt (x (ValueIdx.ix1 p)) 0#32) (IntOp.addi (x (ValueIdx.ix1 p)) n) (x (ValueIdx.ix1 p)) = _
    rw [hx]
    exact wrap_of_lt _ _ (by rw [WordCmp.toNat_ofNat_of_lt (by omega)]; omega)

/-- The first index word of row `p` is the word of `p`. -/
theorem pairs_position (p : Fin 4096) : pairs (ValueIdx.ix2 p (0 : Fin 2)) = BitVec.ofNat 32 p.val := by
  refine (concatenate_pair_apply_left (t := S4096x2) (s₁ := S4096x1) (s₂ := S4096x1) 1 _ _ _ _ rfl
    (ValueIdx.ix2 p (0 : Fin 1)) fun b => ?_).trans (column_apply positions _ p p.isLt rfl)
  match b with
  | ⟨0, _⟩ => rfl
  | ⟨1, _⟩ => rfl

/-- The second index word of row `p` is the word of the target token of `p`. -/
theorem pairs_target (p : Fin 4096) : pairs (ValueIdx.ix2 p (1 : Fin 2)) = BitVec.ofNat 32 (target p.val) := by
  have ht := target_lt p.val
  refine (concatenate_pair_apply_right (t := S4096x2) (s₁ := S4096x1) (s₂ := S4096x1) 1 _ _ _ _ rfl rfl
    (ValueIdx.ix2 p (0 : Fin 1)) (fun b hb => ?_) rfl).trans (column_apply targets _ p (by omega) (targets_apply _))
  match b with
  | ⟨0, _⟩ => rfl
  | ⟨1, _⟩ => exact absurd rfl hb

/-! ## Where an update lands -/

/-- The scatter's dimension numbers. -/
abbrev dims : ScatterDims S64x4096x128 S4096x2 S64x4096 := scatter_S64x4096x128_S4096x2_S64x4096_0_12_12_1

/-- An update's coordinate on the sequence axis is its own first coordinate. -/
theorem window_sequence (b : Fin 64) (p : Fin 4096) : dims.window (ValueIdx.ix2 b p) 0 = b.val := rfl

/-- An update spans one position. -/
theorem window_position (b : Fin 64) (p : Fin 4096) : dims.window (ValueIdx.ix2 b p) 1 = 0 := rfl

/-- An update spans one token. -/
theorem window_token (b : Fin 64) (p : Fin 4096) : dims.window (ValueIdx.ix2 b p) 2 = 0 := rfl

/-- An update starts at sequence zero, whatever the index words. -/
theorem start_sequence (b : Fin 64) (p : Fin 4096) (x : IVec S4096x2 32) :
    dims.start (ValueIdx.ix2 b p) x 0 = 0 := rfl

/-- An update starts at the position that the first index word of its row names. -/
theorem start_position (b : Fin 64) (p : Fin 4096) (x : IVec S4096x2 32) :
    dims.start (ValueIdx.ix2 b p) x 1 = (x (ValueIdx.ix2 p (0 : Fin 2))).toInt := by
  refine congrArg (fun q => (x q).toInt) (funext fun a => ?_)
  match a with
  | ⟨0, _⟩ => rfl
  | ⟨1, _⟩ => rfl

/-- An update starts at the token that the second index word of its row names. -/
theorem start_token (b : Fin 64) (p : Fin 4096) (x : IVec S4096x2 32) :
    dims.start (ValueIdx.ix2 b p) x 2 = (x (ValueIdx.ix2 p (1 : Fin 2))).toInt := by
  refine congrArg (fun q => (x q).toInt) (funext fun a => ?_)
  match a with
  | ⟨0, _⟩ => rfl
  | ⟨1, _⟩ => rfl

/-- Update `(b, p)` lands at an element exactly when the element is `(b, p, target p)`. -/
theorem lands_iff (b : Fin 64) (p : Fin 4096) (j : S64x4096x128.Idx) :
    dims.resultIdx? (ValueIdx.ix2 b p) pairs = some j
      ↔ b.val = (j 0).val ∧ p.val = (j 1).val ∧ target p.val = (j 2).val := by
  have hp := p.isLt
  have ht := target_lt p.val
  have s1 : dims.start (ValueIdx.ix2 b p) pairs 1 = (p.val : Int) := by
    rw [start_position, pairs_position]
    exact WordCmp.toInt_ofNat_of_lt (w := 32) (by omega)
  have s2 : dims.start (ValueIdx.ix2 b p) pairs 2 = (target p.val : Int) := by
    rw [start_token, pairs_target]
    exact WordCmp.toInt_ofNat_of_lt (w := 32) (by omega)
  rw [resultIdx?_eq_some]
  constructor
  · intro h
    have h0 := h 0
    have h1 := h 1
    have h2 := h 2
    rw [start_sequence, window_sequence] at h0
    rw [s1, window_position] at h1
    rw [s2, window_token] at h2
    exact ⟨by omega, by omega, by omega⟩
  · rintro ⟨h0, h1, h2⟩
    have e0 : dims.start (ValueIdx.ix2 b p) pairs 0 + (dims.window (ValueIdx.ix2 b p) 0 : Int) = ((j 0).val : Int) := by
      rw [start_sequence, window_sequence]; omega
    have e1 : dims.start (ValueIdx.ix2 b p) pairs 1 + (dims.window (ValueIdx.ix2 b p) 1 : Int) = ((j 1).val : Int) := by
      rw [s1, window_position]; omega
    have e2 : dims.start (ValueIdx.ix2 b p) pairs 2 + (dims.window (ValueIdx.ix2 b p) 2 : Int) = ((j 2).val : Int) := by
      rw [s2, window_token]; omega
    intro a
    match a with
    | ⟨0, _⟩ => exact e0
    | ⟨1, _⟩ => exact e1
    | ⟨2, _⟩ => exact e2

/-! ## The result -/

/-- The value that the scatter writes, from the anchor's array. -/
abbrev hot (anchor : FVec Ideal S1 .f32) : FVec Ideal S_ .f32 :=
  addf (constant S_ .f32 0x447A0000#32) (shapeCast S_ anchor shapeCasts_S1_S_)

/-- It is 1000 plus the anchor: over the extended reals a sum of vectors and a sum of scalars are the same sum. -/
theorem hot_apply (anchor : FVec Ideal S1 .f32) (q : S_.Idx) :
    hot anchor q = Scalar.addf (Scalar.ofBits .f32 0x447A0000#32) (anchor (ValueIdx.ix1 (0 : Fin 1))) := by
  have e : shapeCast S_ anchor shapeCasts_S1_S_ q = anchor (ValueIdx.ix1 (0 : Fin 1)) := by
    refine congrArg anchor (funext fun a => ?_)
    match a with
    | ⟨0, _⟩ => exact Subsingleton.elim (α := Fin 1) _ _
  exact congrArg (Scalar.addf (Scalar.ofBits .f32 0x447A0000#32)) e

/-- The scatter's result is the logits of the anchor. -/
theorem scatter_eq (anchor : FVec Ideal S1 .f32) :
    Host.scatter dims (fun _ b => b)
        (broadcastInDim S64x4096x128 ![] bcast_S_S64x4096x128 (constant (F := Ideal) S_ .f32 0xC47A0000#32)) pairs
        (broadcastInDim S64x4096 ![] bcast_S_S64x4096 (hot anchor)) = logits anchor := by
  funext j
  by_cases h : (j 2).val = target (j 1).val
  · refine (scatter_set_hit dims _ pairs _ j
      (Scalar.addf (Scalar.ofBits .f32 0x447A0000#32) (anchor (ValueIdx.ix1 (0 : Fin 1))))
      (fun k _ => hot_apply anchor _) (ValueIdx.ix2 (j 0) (j 1)) ((lands_iff _ _ j).2 ⟨rfl, rfl, h.symm⟩)).trans ?_
    exact (if_pos h).symm
  · refine (scatter_set_miss dims _ pairs _ j fun k hk => h ?_).trans (if_neg h).symm
    have e : k = ValueIdx.ix2 (k 0) (k 1) := ValueIdx.eq_ix2 k
    rw [e] at hk
    obtain ⟨-, h1, h2⟩ := (lands_iff _ _ j).1 hk
    rw [← h1]
    exact h2.symm

/-- The reference's run: the result array is the logits of the anchor, the arguments are as launched. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v22) = logits (F := Ideal) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (scatter_eq _), (h c).2⟩) (Value.run (F := Ideal) m ρ)

end Cert.ReferenceIdeal.Scattered

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.KernelValue
public import proofs.«01_k».proof.Proof.RefValue
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The reference runs without a fault, leaves its arguments as launched, and ends with every semaphore counter at zero:
    it has no semaphores. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Scattered.run m ρ)

/-- The kernel and the reference, run on equal arguments, both end with the logits of the anchor. -/
theorem algebraic : Cert.algebraic_KernelIdeal_ReferenceIdeal := by
  pair_intro
  · run_from Cert.KernelIdeal.Filled.run (F := Ideal) m g
  · run_from Cert.ReferenceIdeal.Scattered.run m' g'

/-- The five claims: the three programs run to quiescence, the idealized kernel is the kernel's sanctioned idealization,
    and it computes what the reference computes. -/
theorem claim : Cert.Claim :=
  ⟨Cert.Kernel.Gen.facts, Cert.KernelIdeal.Gen.facts, Cert.ReferenceIdeal.Gen.facts,
    fun m ρ _ => Cert.Kernel.Gen.frame m ρ, fun m ρ _ => Cert.KernelIdeal.Gen.frame m ρ, frame_reference, trivial,
    algebraic⟩

end Cert.Proof

end
